-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x256x4608 : Shape := ⟨3, ![6, 256, 4608]⟩
abbrev S2304x9216 : Shape := ⟨2, ![2304, 9216]⟩
abbrev S36x9216 : Shape := ⟨2, ![36, 9216]⟩
abbrev S1536x4608 : Shape := ⟨2, ![1536, 4608]⟩
abbrev S1536x9216 : Shape := ⟨2, ![1536, 9216]⟩
abbrev S2304x256 : Shape := ⟨2, ![2304, 256]⟩
abbrev S36x256 : Shape := ⟨2, ![36, 256]⟩
abbrev S1536x256 : Shape := ⟨2, ![1536, 256]⟩
abbrev S2304x2x256 : Shape := ⟨3, ![2304, 2, 256]⟩
abbrev S2304x1x256 : Shape := ⟨3, ![2304, 1, 256]⟩
abbrev S4608x256 : Shape := ⟨2, ![4608, 256]⟩
abbrev S36x128x256 : Shape := ⟨3, ![36, 128, 256]⟩
abbrev S36x1x256 : Shape := ⟨3, ![36, 1, 256]⟩
abbrev S6x256x9216 : Shape := ⟨3, ![6, 256, 9216]⟩

abbrev nBuf : Space → Nat
  | .hbm => 6
  | .vmem => 7
  | .smem => 0
  | _ => 0

abbrev bufTy : (tb : Table) → Fin (tcTables nBuf tb) → BufTy
  | .hbm, ⟨0, _⟩ => ⟨S6x256x4608, .bf16⟩
  | .hbm, ⟨1, _⟩ => ⟨S2304x9216, .i8⟩
  | .hbm, ⟨2, _⟩ => ⟨S36x9216, .bf16⟩
  | .hbm, ⟨3, _⟩ => ⟨S1536x4608, .bf16⟩
  | .hbm, ⟨4, _⟩ => ⟨S1536x9216, .bf16⟩
  | .hbm, ⟨5, _⟩ => ⟨S6x256x9216, .bf16⟩
  | .local _ .vmem, ⟨0, _⟩ => ⟨S1536x4608, .bf16⟩
  | .local _ .vmem, ⟨1, _⟩ => ⟨S2304x256, .i8⟩
  | .local _ .vmem, ⟨2, _⟩ => ⟨S2304x256, .i8⟩
  | .local _ .vmem, ⟨3, _⟩ => ⟨S36x256, .bf16⟩
  | .local _ .vmem, ⟨4, _⟩ => ⟨S36x256, .bf16⟩
  | .local _ .vmem, ⟨5, _⟩ => ⟨S1536x256, .bf16⟩
  | .local _ .vmem, ⟨6, _⟩ => ⟨S1536x256, .bf16⟩
  | _, _ => ⟨S6x256x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1536x4608 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2304x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S36x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1536x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S6x256x4608 : Shape := ⟨3, ![6, 256, 4608]⟩
abbrev S2304x9216 : Shape := ⟨2, ![2304, 9216]⟩
abbrev S36x9216 : Shape := ⟨2, ![36, 9216]⟩
abbrev S_ : Shape := ⟨0, ![]⟩
abbrev S36x64x9216 : Shape := ⟨3, ![36, 64, 9216]⟩
abbrev S36x1x9216 : Shape := ⟨3, ![36, 1, 9216]⟩
abbrev S2304x1x9216 : Shape := ⟨3, ![2304, 1, 9216]⟩
abbrev S2304x2x9216 : Shape := ⟨3, ![2304, 2, 9216]⟩
abbrev S4608x9216 : Shape := ⟨2, ![4608, 9216]⟩
abbrev S6x256x9216 : Shape := ⟨3, ![6, 256, 9216]⟩

abbrev nBuf : Space → Nat
  | .hbm => 34
  | .vmem => 0
  | .smem => 0
  | _ => 0

abbrev bufTy : (tb : Table) → Fin (tcTables nBuf tb) → BufTy
  | .hbm, ⟨0, _⟩ => ⟨S6x256x4608, .bf16⟩
  | .hbm, ⟨1, _⟩ => ⟨S2304x9216, .i8⟩
  | .hbm, ⟨2, _⟩ => ⟨S36x9216, .bf16⟩
  | .hbm, ⟨3, _⟩ => ⟨S2304x9216, .i32⟩
  | .hbm, ⟨4, _⟩ => ⟨S_, .i32⟩
  | .hbm, ⟨5, _⟩ => ⟨S2304x9216, .i32⟩
  | .hbm, ⟨6, _⟩ => ⟨S2304x9216, .i32⟩
  | .hbm, ⟨7, _⟩ => ⟨S_, .i32⟩
  | .hbm, ⟨8, _⟩ => ⟨S2304x9216, .i32⟩
  | .hbm, ⟨9, _⟩ => ⟨S2304x9216, .i32⟩
  | .hbm, ⟨10, _⟩ => ⟨S2304x9216, .bf16⟩
  | .hbm, ⟨11, _⟩ => ⟨S_, .bf16⟩
  | .hbm, ⟨12, _⟩ => ⟨S2304x9216, .bf16⟩
  | .hbm, ⟨13, _⟩ => ⟨S2304x9216, .bf16⟩
  | .hbm, ⟨14, _⟩ => ⟨S36x64x9216, .bf16⟩
  | .hbm, ⟨15, _⟩ => ⟨S36x1x9216, .bf16⟩
  | .hbm, ⟨16, _⟩ => ⟨S36x64x9216, .bf16⟩
  | .hbm, ⟨17, _⟩ => ⟨S36x64x9216, .bf16⟩
  | .hbm, ⟨18, _⟩ => ⟨S2304x9216, .bf16⟩
  | .hbm, ⟨19, _⟩ => ⟨S2304x9216, .bf16⟩
  | .hbm, ⟨20, _⟩ => ⟨S_, .bf16⟩
  | .hbm, ⟨21, _⟩ => ⟨S2304x9216, .bf16⟩
  | .hbm, ⟨22, _⟩ => ⟨S2304x9216, .bf16⟩
  | .hbm, ⟨23, _⟩ => ⟨S36x64x9216, .bf16⟩
  | .hbm, ⟨24, _⟩ => ⟨S36x1x9216, .bf16⟩
  | .hbm, ⟨25, _⟩ => ⟨S36x64x9216, .bf16⟩
  | .hbm, ⟨26, _⟩ => ⟨S36x64x9216, .bf16⟩
  | .hbm, ⟨27, _⟩ => ⟨S2304x9216, .bf16⟩
  | .hbm, ⟨28, _⟩ => ⟨S2304x1x9216, .bf16⟩
  | .hbm, ⟨29, _⟩ => ⟨S2304x1x9216, .bf16⟩
  | .hbm, ⟨30, _⟩ => ⟨S2304x2x9216, .bf16⟩
  | .hbm, ⟨31, _⟩ => ⟨S4608x9216, .bf16⟩
  | .hbm, ⟨32, _⟩ => ⟨S6x256x9216, .f32⟩
  | .hbm, ⟨33, _⟩ => ⟨S6x256x9216, .bf16⟩
  | _, _ => ⟨S6x256x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== Proof.Nibble.lean ====
/- One packed weight code: a byte holds two unsigned 4-bit codes, the low four bits and the high four bits, each stored
   with 8 added. The kernel flips the top bit of both codes and reads each as a signed 4-bit number; the reference reads
   each as an unsigned number and subtracts 8. This module shows that the two readings are one number. -/
module

public import Idealize.ShloMosaic.Lib.Pointwise

@[expose] public section

noncomputable section

namespace Cert.Proof

open Idealize.ShloMosaic

/-- The signed weight that half `h` of byte `b` encodes (half 0: the low four bits, half 1: the high four bits): the
    unsigned code less 8, a number from -8 to 7. -/
def code (b : BitVec 8) (h : ℕ) : ℤ := ((b.toNat / 16 ^ h % 16 : ℕ) : ℤ) - 8

/-- Half `h` of a byte as the kernel reads it: both sign bits flipped, shifted right by `4 * h`, cut to four bits and read
    as a signed number, is `code`. -/
theorem kernel_nibble (b : BitVec 8) (h : ℕ) (hh : h < 2) :
    (BitVec.setWidth 4 (IntOp.shrsi ArithUnit.vector (BitVec.setWidth 32 (IntOp.xori b 136#8))
      (IntOp.muli (4#32) (BitVec.ofNat 32 h)))).toInt = code b h := by
  have hs : ∀ x : BitVec 32, IntOp.shrsi ArithUnit.vector x (IntOp.muli (4#32) (BitVec.ofNat 32 h))
      = x.sshiftRight (4 * h) := by
    intro x
    obtain rfl | rfl : h = 0 ∨ h = 1 := by omega
    · exact (if_pos (by decide)).trans rfl
    · exact (if_pos (by decide)).trans rfl
  rw [hs]
  exact (by decide +kernel : ∀ (b : BitVec 8) (h : Fin 2),
    (BitVec.setWidth 4 ((BitVec.setWidth 32 (b ^^^ 136#8)).sshiftRight (4 * h.val))).toInt = code b h.val) b ⟨h, hh⟩

/-- The low code as the reference reads it, the byte's value and `15`, is `code` at half 0 with 8 added. -/
theorem reference_low (b : BitVec 8) : (IntOp.andi (BitVec.setWidth 32 b) 15#32).toInt = code b 0 + 8 :=
  (by decide +kernel : ∀ b : BitVec 8, (BitVec.setWidth 32 b &&& 15#32).toInt = code b 0 + 8) b

/-- The high code as the reference reads it, the byte's value shifted right by four, is `code` at half 1 with 8 added. -/
theorem reference_high (b : BitVec 8) : (IntOp.shrsi ArithUnit.host (BitVec.setWidth 32 b) 4#32).toInt = code b 1 + 8 := by
  have hs : IntOp.shrsi ArithUnit.host (BitVec.setWidth 32 b) 4#32 = (BitVec.setWidth 32 b).sshiftRight 4 :=
    (if_pos (by decide)).trans rfl
  rw [hs]
  exact (by decide +kernel : ∀ b : BitVec 8, ((BitVec.setWidth 32 b).sshiftRight 4).toInt = code b 1 + 8) b

/-- The constant that the reference subtracts from a code is 8. -/
theorem ofBits_eight : Ideal.ofBits .bf16 0x4100#16 = ((8 : ℝ) : EReal) := by
  simp [Ideal.ofBits, Ideal.ieee, -EReal.coe_mul]; norm_num

/-- An integer that is `q + 8`, less the reference's constant, is `q`, as extended reals. -/
theorem sub_eight (z q : ℤ) (hz : z = q + 8) : ((z : ℝ) : EReal) - Ideal.ofBits .bf16 0x4100#16 = ((q : ℝ) : EReal) := by
  rw [ofBits_eight, ← EReal.coe_sub, hz]
  exact congrArg _ (by push_cast; ring)

end Cert.Proof

end
-- ==== Proof.Block.lean ====
/- What one grid point of the kernel computes from the three blocks that it is given. -/
module

public import proofs.«01_k».proof.Proof.Gen.KernelIdeal.Frame
public import proofs.«01_k».proof.Proof.Nibble
public import Idealize.ShloMosaic.Lib.Pipeline.ValueKit

@[expose] public section

set_option maxRecDepth 16384

noncomputable section

namespace Cert.Proof

open Idealize.ShloMosaic Cert.KernelIdeal Cert.KernelIdeal.Gen

/-- The block that a grid point stores, at row `r` and column `c`: the sum over the 4608 input features `k` of
    `x[r, k]` times the dequantized weight, which is the code in half `k % 2` of byte `p[k / 2, c]` times the scale
    `s[k / 128, c]` of the group that `k` is in. -/
theorem block_apply (p : Vec Ideal S2304x256 .i8) (s : Vec Ideal S36x256 .bf16) (x : Vec Ideal S1536x4608 .bf16)
    (j : S1536x256.Idx) :
    (show FVec Ideal S1536x256 .bf16 from k0_pay1 p s x) j
      = ∑ k : Fin 4608, (show FVec Ideal S1536x4608 .bf16 from x) (ix2 (j 0) k) *
          (((code ((show IVec S2304x256 8 from p) (ix2 ⟨k.val / 2, by omega⟩ (j 1))) (k.val % 2) : ℝ) : EReal)
            * (show FVec Ideal S36x256 .bf16 from s) (ix2 ⟨k.val / 128, by omega⟩ (j 1))) := by
  pointwise [k0_pay1]
  refine Finset.sum_congr rfl fun k _ => ?_
  rw [← kernel_nibble _ (k.val % 2) (by omega)]
  rfl

end Cert.Proof

end
-- ==== Proof.KernelValue.lean ====
/- What the kernel's result array holds after the run. -/
module

public import proofs.«01_k».proof.Proof.Block

@[expose] public section

set_option maxRecDepth 16384

noncomputable section

namespace Cert.Proof

open Idealize.ShloMosaic Idealize.ShloMosaic.TcCoe Idealize.SL.Sem Cert.KernelIdeal Cert.KernelIdeal.Gen
open Idealize.ShloMosaic.Pipeline (Dat)

/-- The linear layer over the whole arrays: entry `(b, t, n)` is the sum over the input features `k` of `x[b, t, k]` times
    the dequantized weight of feature `k` and output column `n`. -/
def linear (x : FVec Ideal S6x256x4608 .bf16) (p : IVec S2304x9216 8) (s : FVec Ideal S36x9216 .bf16)
    (b : Fin 6) (t : Fin 256) (n : Fin 9216) : EReal :=
  ∑ k : Fin 4608, x (ix3 b t k) *
    (((code (p (ix2 ⟨k.val / 2, by omega⟩ n)) (k.val % 2) : ℝ) : EReal) * s (ix2 ⟨k.val / 128, by omega⟩ n))

/-- The same over the rows flattened, as the kernel's grid points store it: row `r` is row `r % 256` of batch `r / 256`. -/
def flat (x : FVec Ideal S6x256x4608 .bf16) (p : IVec S2304x9216 8) (s : FVec Ideal S36x9216 .bf16) :
    FVec Ideal S1536x9216 .bf16 :=
  fun j => linear x p s ⟨(j 0).val / 256, by have := (j 0).isLt; simp at this; omega⟩ ⟨(j 0).val % 256, by omega⟩ (j 1)

variable (m : (ℓ : Loc nD τ sig) → Buf (Elt Ideal) ℓ)

/-- Where each window's block lies: `x` whole at every point, the others at block column `t`. -/
theorem idx : ∀ t : Fin cfg0.N, win0_0.index t = ![0, 0] ∧ win0_1.index t = ![0, t.val] ∧ win0_2.index t = ![0, t.val]
    ∧ win0_3.index t = ![0, t.val] ∧ t.val < 36 :=
  (by decide +kernel : ∀ t : Fin grid0.N, _)

/-- The first window's array when the grid starts: `x` with its first two axes flattened. -/
theorem entry_x (c : Dev nD) : V m c main_v0
    = shapeCast S1536x4608 (show FVec Ideal S6x256x4608 .bf16 from m ((c : Thread nD τ).loc main_arg0))
        shapeCasts_S6x256x4608_S1536x4608 := by
  entry_read
  rfl

/-- What point `t` stores, at index `y` of its block, is the layer's value where `y` lies in the result array. -/
theorem point (c : Dev nD) (t : Fin cfg0.N) (y) :
    k0_pay1 (iblk m c 1 t) (iblk m c 2 t) (iblk m c 0 t) y
      = flat (m ((c : Thread nD τ).loc main_arg0)) (m ((c : Thread nD τ).loc main_arg1))
          (m ((c : Thread nD τ).loc main_arg2)) (((cfg0.win 3).blk t).view.emb y) := by
  refine (block_apply _ _ _ y).trans ?_
  unfold flat linear
  blk_point [iblk, V, idx t]
  rw [entry_x]
  pointwise
  blk_ext [idx t]

/-- The array of the output window after the run: the layer over the flattened rows. -/
theorem final (c : Dev nD) : (dats m 0 c).arrAt 3 (cfgs 0).N
    = flat (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]; frame_out
  exact point m c t y

end Cert.Proof

end
-- ==== Proof.KernelRun.lean ====
/- The kernel's run: what its result holds, and that its arguments are kept. -/
module

public import proofs.«01_k».proof.Proof.KernelValue

@[expose] public section

set_option maxRecDepth 16384

noncomputable section

namespace Cert.Proof

open Idealize.ShloMosaic Idealize.ShloMosaic.TcCoe Idealize.SL.Sem Cert.KernelIdeal Cert.KernelIdeal.Gen

variable (m : (ℓ : Loc nD τ sig) → Buf (Elt Ideal) ℓ)

/-- The result of the kernel's last host operation: the layer over the flattened rows, with the rows unflattened again. -/
def result (x : FVec Ideal S6x256x4608 .bf16) (p : IVec S2304x9216 8) (s : FVec Ideal S36x9216 .bf16) :
    FVec Ideal S6x256x9216 .bf16 :=
  shapeCast S6x256x9216 (flat x p s) shapeCasts_S1536x9216_S6x256x9216

/-- The result's entry `(b, t, n)` is the layer's: row `(b, t)` is row `b * 256 + t` of the flattened rows. -/
theorem result_apply (x : FVec Ideal S6x256x4608 .bf16) (p : IVec S2304x9216 8) (s : FVec Ideal S36x9216 .bf16)
    (j : S6x256x9216.Idx) : result x p s j = linear x p s (j 0) (j 1) (j 2) := by
  idx_vars j
  pointwise [result, flat]
  have hb : (⟨(j0.val * 256 + j1.val) / 256, by omega⟩ : Fin 6) = j0 :=
    Fin.ext (by show (j0.val * 256 + j1.val) / 256 = j0.val; omega)
  have ht : (⟨(j0.val * 256 + j1.val) % 256, by omega⟩ : Fin 256) = j1 :=
    Fin.ext (by show (j0.val * 256 + j1.val) % 256 = j1.val; omega)
  rw [hb, ht]

/-- What the trailing host operation leaves in the result buffer. -/
theorem tail_eq (c : Dev nD) :
    Pipeline.afterTail₀ cfgs (dats m) 0 (V0 m) [hostOps1] c main_v2
      = result (m ((c : Thread nD τ).loc main_arg0)) (m ((c : Thread nD τ).loc main_arg1))
          (m ((c : Thread nD τ).loc main_arg2)) := by
  have h := Pipeline.withArrays_arr (cfgs 0).spec (by exact (by decide : Function.Injective (Pipeline.arrRef spec0))) c
    (V0 m c) (fun w => (dats m 0 c).arrAt w (cfgs 0).N) 3
  rw [final] at h
  unfold Pipeline.afterTail₀ result
  simp only [List.flatten_cons, List.flatten_nil, List.append_nil]
  after_results
  rw [← h]
  rfl

/-- Every execution of the kernel ends with `result` of the arguments in the result buffer, the arguments as they were. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v2) = result (m ((c : Thread nD τ).loc main_arg0))
        (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨((h.1 c).2 main_v2 (Pipeline.mem_restRefs_of main_v2 (by decide) (by decide))).trans (tail_eq m c), h.2.1 c⟩)
    (θ_run_and (run_main m ρ) (frame m ρ))

end Cert.Proof

end
-- ==== Proof.RefValue.lean ====
/- What the reference's result array holds after the run. -/
module

public import proofs.«01_k».proof.Proof.Gen.ReferenceIdeal.Run
public import proofs.«01_k».proof.Proof.KernelRun

@[expose] public section

set_option maxRecDepth 16384

noncomputable section

namespace Cert.Proof

open Idealize.ShloMosaic Cert.ReferenceIdeal Cert.ReferenceIdeal.Gen

/-- One half of the reference's dequantized weights, from the codes of that half: 8 subtracted, then scaled by groups of
    64 rows. -/
def half (q : IVec S2304x9216 32) (s : FVec Ideal S36x9216 .bf16) : FVec Ideal S2304x9216 .bf16 :=
  shapeCast _ (mulf (shapeCast _ (subf (sitofp .bf16 q) (broadcastInDim S2304x9216 ![] bcast_S_S2304x9216 (constant S_ .bf16 0x4100#16))) shapeCasts_S2304x9216_S36x64x9216) (broadcastInDim S36x64x9216 ![0, 1, 2] bcast_S36x1x9216_S36x64x9216_0_1_2 (broadcastInDim S36x1x9216 ![0, 2] bcast_S36x9216_S36x1x9216_0_2 s))) shapeCasts_S36x64x9216_S2304x9216

/-- The reference's composed term: the product of `x` with the two halves interleaved row by row. -/
def reference (x : FVec Ideal S6x256x4608 .bf16) (p : IVec S2304x9216 8) (s : FVec Ideal S36x9216 .bf16) :
    FVec Ideal S6x256x9216 .bf16 :=
  truncf .bf16 (Host.dotGeneral dot_S6x256x4608_S4608x9216_S6x256x9216_2_0_01_1_n_n none x (shapeCast _ (concatenate S2304x2x9216 1 [⟨S2304x1x9216, (broadcastInDim S2304x1x9216 ![0, 2] bcast_S2304x9216_S2304x1x9216_0_2 (half (andi (extui 32 p natLt_8_32) (broadcastInDim S2304x9216 ![] bcast_S_S2304x9216 (constantI S_ 32 15#32))) s))⟩, ⟨S2304x1x9216, (broadcastInDim S2304x1x9216 ![0, 2] bcast_S2304x9216_S2304x1x9216_0_2 (half (Host.shrsi (extui 32 p natLt_8_32) (broadcastInDim S2304x9216 ![] bcast_S_S2304x9216 (constantI S_ 32 4#32))) s))⟩] concatenates_S2304x1x9216_S2304x1x9216_S2304x2x9216_d1) shapeCasts_S2304x2x9216_S4608x9216)) bitsLt_bf16_f32

/-- The reference's term is the layer's value at every index. -/
theorem reference_apply (x : FVec Ideal S6x256x4608 .bf16) (p : IVec S2304x9216 8) (s : FVec Ideal S36x9216 .bf16)
    (j : S6x256x9216.Idx) : reference x p s j = linear x p s (j 0) (j 1) (j 2) := by
  pointwise [reference, half, linear]
  refine Finset.sum_congr rfl fun k _ => congrArg (_ * ·) ?_
  have hr : (⟨k.val / 2 / 64 * 64 + k.val / 2 % 64, by omega⟩ : Fin 2304) = ⟨k.val / 2, by omega⟩ :=
    Fin.ext (by show k.val / 2 / 64 * 64 + k.val / 2 % 64 = k.val / 2; omega)
  have hg : (⟨k.val / 2 / 64, by omega⟩ : Fin 36) = ⟨k.val / 128, by omega⟩ :=
    Fin.ext (by show k.val / 2 / 64 = k.val / 128; omega)
  rw [hr, hg]
  split
  · rw [show k.val % 2 = 0 by omega]
    exact congrArg (· * _) (sub_eight _ _ (reference_low _))
  · rw [show k.val % 2 = 1 by omega]
    exact congrArg (· * _) (sub_eight _ _ (reference_high _))

/-- The reference's term and the kernel's result are one array. -/
theorem reference_eq_result (x : FVec Ideal S6x256x4608 .bf16) (p : IVec S2304x9216 8) (s : FVec Ideal S36x9216 .bf16) :
    reference x p s = result x p s :=
  funext fun j => (reference_apply x p s j).trans (result_apply x p s j).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, keeps its arguments and ends with every counter at zero: it has no semaphore. -/
theorem reference_frame : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩) (Cert.ReferenceIdeal.Value.run m ρ)

/-- The kernel and the reference, run on equal arguments, end with equal results: both results are the linear layer's at
    every index. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨_, kernel_run m g, (θ_run Cert.ReferenceIdeal.defs _ _).mono (fun r h c => ⟨(h c).1.trans ?_, (h c).2⟩)
    (Cert.ReferenceIdeal.Value.run m' g')⟩
  obtain ⟨h0, h1, h2⟩ := hagree c
  rw [h0, h1, h2]
  exact reference_eq_result _ _ _

/-- Every claim of this certificate. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial,
  algebraic⟩

end Cert.Proof

end
